-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x2048 : Shape := ⟨3, ![2, 4096, 2048]⟩
abbrev S6144x2048 : Shape := ⟨2, ![6144, 2048]⟩
abbrev S2048x2048 : Shape := ⟨2, ![2048, 2048]⟩
abbrev S_ : Shape := ⟨0, ![]⟩
abbrev S4096x2048 : Shape := ⟨2, ![4096, 2048]⟩

class Facts : Prop where
  bcast_S_S2x4096x2048 : S_.BroadcastsInDim S2x4096x2048 (![] : Fin 0 → Fin S2x4096x2048.rank)
  slices_S6144x2048_S4096x2048_0_0 : S6144x2048.Slices ![0, 0] S4096x2048
  bcast_S_S4096x2048 : S_.BroadcastsInDim S4096x2048 (![] : Fin 0 → Fin S4096x2048.rank)

variable [Facts]

def fn {F : FTy → Type} [FloatOps F] (main_arg0 : FVec F S2x4096x2048 .f32) (main_arg1 : FVec F S6144x2048 .f32) (main_arg2 : FVec F S2048x2048 .f32) : IVec S2x4096x2048 1 × IVec S4096x2048 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S4096x2048 .f32 := (extractStridedSlice S4096x2048 ![0, 0] · slices_S6144x2048_S4096x2048_0_0) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  (main_v2, main_v6)
-- ==== Kernel.lean ====
abbrev S2x4096x2048 : Shape := ⟨3, ![2, 4096, 2048]⟩
abbrev S6144x2048 : Shape := ⟨2, ![6144, 2048]⟩
abbrev S2048x2048 : Shape := ⟨2, ![2048, 2048]⟩
abbrev S128x128 : Shape := ⟨2, ![128, 128]⟩
abbrev S16x512x2048 : Shape := ⟨3, ![16, 512, 2048]⟩
abbrev S_ : Shape := ⟨0, ![]⟩
abbrev S1x512x2048 : Shape := ⟨3, ![1, 512, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S6144x2048, .f32⟩
  | .hbm, ⟨2, _⟩ => ⟨S2048x2048, .f32⟩
  | .hbm, ⟨3, _⟩ => ⟨S128x128, .f32⟩
  | .hbm, ⟨4, _⟩ => ⟨S16x512x2048, .f32⟩
  | .hbm, ⟨5, _⟩ => ⟨S6144x2048, .bf16⟩
  | .hbm, ⟨6, _⟩ => ⟨S2048x2048, .bf16⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x128, .bf16⟩
  | .hbm, ⟨11, _⟩ => ⟨S16x512x2048, .f32⟩
  | .hbm, ⟨12, _⟩ => ⟨S2x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S6144x2048, .bf16⟩
  | .local _ .vmem, ⟨3, _⟩ => ⟨S2048x2048, .bf16⟩
  | .local _ .vmem, ⟨4, _⟩ => ⟨S128x128, .bf16⟩
  | .local _ .vmem, ⟨5, _⟩ => ⟨S1x512x2048, .f32⟩
  | .local _ .vmem, ⟨6, _⟩ => ⟨S1x512x2048, .f32⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x4096x2048 : Shape := ⟨3, ![2, 4096, 2048]⟩
abbrev S6144x2048 : Shape := ⟨2, ![6144, 2048]⟩
abbrev S2048x2048 : Shape := ⟨2, ![2048, 2048]⟩
abbrev S4096 : Shape := ⟨1, ![4096]⟩
abbrev S2048x6144 : Shape := ⟨2, ![2048, 6144]⟩
abbrev S2x4096x6144 : Shape := ⟨3, ![2, 4096, 6144]⟩
abbrev S2x4096x3x16x128 : Shape := ⟨5, ![2, 4096, 3, 16, 128]⟩
abbrev S3x2x16x4096x128 : Shape := ⟨5, ![3, 2, 16, 4096, 128]⟩
abbrev S1x2x16x4096x128 : Shape := ⟨5, ![1, 2, 16, 4096, 128]⟩
abbrev S2x16x4096x128 : Shape := ⟨4, ![2, 16, 4096, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S2x16x32x128x128 : Shape := ⟨5, ![2, 16, 32, 128, 128]⟩
abbrev S128 : Shape := ⟨1, ![128]⟩
abbrev S1x1x1x1x128 : Shape := ⟨5, ![1, 1, 1, 1, 128]⟩
abbrev S2x16x32x128 : Shape := ⟨4, ![2, 16, 32, 128]⟩
abbrev S2x16x32x128x1 : Shape := ⟨5, ![2, 16, 32, 128, 1]⟩
abbrev S2x4096x16x128 : Shape := ⟨4, ![2, 4096, 16, 128]⟩

abbrev nBuf : Space → Nat
  | .hbm => 142
  | .vmem => 0
  | .smem => 0
  | _ => 0

abbrev hbmTy0_0 (i : Nat) : BufTy := match i % 128 with
  | 0 => ⟨S2x4096x2048, .f32⟩
  | 1 => ⟨S6144x2048, .f32⟩
  | 2 => ⟨S2048x2048, .f32⟩
  | 3 => ⟨S4096, .i32⟩
  | 4 => ⟨S2048x6144, .f32⟩
  | 5 => ⟨S2x4096x6144, .f32⟩
  | 6 => ⟨S2x4096x3x16x128, .f32⟩
  | 7 => ⟨S3x2x16x4096x128, .f32⟩
  | 8 => ⟨S1x2x16x4096x128, .f32⟩
  | 9 => ⟨S2x16x4096x128, .f32⟩
  | 10 => ⟨S1x2x16x4096x128, .f32⟩
  | 11 => ⟨S2x16x4096x128, .f32⟩
  | 12 => ⟨S1x2x16x4096x128, .f32⟩
  | 13 => ⟨S2x16x4096x128, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S2x16x4096x128, .f32⟩
  | 33 => ⟨S2x16x4096x128, .i1⟩
  | 34 => ⟨S_, .f32⟩
  | 35 => ⟨S2x16x4096x128, .f32⟩
  | 36 => ⟨S2x16x4096x128, .f32⟩
  | 37 => ⟨S_, .f32⟩
  | 38 => ⟨S2x16x4096x128, .f32⟩
  | 39 => ⟨S2x16x4096x128, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S1, .i32⟩
  | 49 => ⟨S_, .i32⟩
  | 50 => ⟨S4096x1, .i32⟩
  | 51 => ⟨S4096x1, .i1⟩
  | 52 => ⟨S1x1, .i32⟩
  | 53 => ⟨S4096x1, .i32⟩
  | 54 => ⟨S4096x1, .i1⟩
  | 55 => ⟨S4096x1, .i1⟩
  | 56 => ⟨S_, .i1⟩
  | 57 => ⟨S4096, .i1⟩
  | 58 => ⟨S2x16x4096x128, .f32⟩
  | 59 => ⟨S2x16x4096x128, .i1⟩
  | 60 => ⟨S_, .f32⟩
  | 61 => ⟨S2x16x4096x128, .f32⟩
  | 62 => ⟨S2x16x4096x128, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S1, .i32⟩
  | 72 => ⟨S_, .i32⟩
  | 73 => ⟨S4096x1, .i32⟩
  | 74 => ⟨S4096x1, .i1⟩
  | 75 => ⟨S1x1, .i32⟩
  | 76 => ⟨S4096x1, .i32⟩
  | 77 => ⟨S4096x1, .i1⟩
  | 78 => ⟨S4096x1, .i1⟩
  | 79 => ⟨S_, .i1⟩
  | 80 => ⟨S4096, .i1⟩
  | 81 => ⟨S2x16x4096x128, .f32⟩
  | 82 => ⟨S2x16x4096x128, .i1⟩
  | 83 => ⟨S_, .f32⟩
  | 84 => ⟨S2x16x4096x128, .f32⟩
  | 85 => ⟨S2x16x4096x128, .f32⟩
  | 86 => ⟨S2x16x32x128x128, .f32⟩
  | 87 => ⟨S2x16x32x128x128, .f32⟩
  | 88 => ⟨S2x16x32x128x128, .f32⟩
  | 89 => ⟨S2x16x32x128x128, .f32⟩
  | 90 => ⟨S128, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S128, .i32⟩
  | 98 => ⟨S128, .i32⟩
  | 99 => ⟨S_, .i32⟩
  | 100 => ⟨S128, .i32⟩
  | 101 => ⟨S128, .i1⟩
  | 102 => ⟨S_, .i32⟩
  | 103 => ⟨S128, .i32⟩
  | 104 => ⟨S128, .i1⟩
  | 105 => ⟨S_, .i32⟩
  | 106 => ⟨S_, .i1⟩
  | 107 => ⟨S128, .i1⟩
  | 108 => ⟨S128, .i1⟩
  | 109 => ⟨S128, .i1⟩
  | 110 => ⟨S128, .i32⟩
  | 111 => ⟨S128, .i32⟩
  | 112 => ⟨S128, .i32⟩
  | 113 => ⟨S_, .i32⟩
  | 114 => ⟨S128, .i32⟩
  | 115 => ⟨S128, .i1⟩
  | 116 => ⟨S1x1x1x1x128, .i1⟩
  | 117 => ⟨S_, .f32⟩
  | 118 => ⟨S_, .f32⟩
  | 119 => ⟨S2x16x32x128x128, .i1⟩
  | 120 => ⟨S2x16x32x128x128, .f32⟩
  | 121 => ⟨S2x16x32x128x128, .f32⟩
  | 122 => ⟨S_, .f32⟩
  | 123 => ⟨S2x16x32x128, .f32⟩
  | 124 => ⟨S_, .f32⟩
  | 125 => ⟨S2x16x32x128, .f32⟩
  | 126 => ⟨S2x16x32x128, .f32⟩
  | 127 => ⟨S2x16x32x128x1, .f32⟩
  | _ => ⟨S2x4096x2048, .f32⟩

abbrev hbmTy0_1 (i : Nat) : BufTy := match i % 128 with
  | 0 => ⟨S2x16x32x128x128, .f32⟩
  | 1 => ⟨S2x16x32x128x128, .f32⟩
  | 2 => ⟨S2x16x32x128x128, .f32⟩
  | 3 => ⟨S_, .f32⟩
  | 4 => ⟨S2x16x32x128, .f32⟩
  | 5 => ⟨S2x16x32x128x1, .f32⟩
  | 6 => ⟨S2x16x32x128x128, .f32⟩
  | 7 => ⟨S2x16x32x128x128, .f32⟩
  | 8 => ⟨S2x16x32x128x128, .f32⟩
  | 9 => ⟨S2x16x4096x128, .f32⟩
  | 10 => ⟨S2x4096x16x128, .f32⟩
  | 11 => ⟨S2x4096x2048, .f32⟩
  | 12 => ⟨S2048x2048, .f32⟩
  | 13 => ⟨S2x4096x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v13 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_c_0 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_c_1 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_v8 : Ref sig .tc := ⟨.hbm, 104, rfl⟩
abbrev main_call3_c_3 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_v20 : Ref sig .tc := ⟨.hbm, 112, rfl⟩
abbrev main_c_1 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_cst_2 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v24 : Ref sig .tc := ⟨.hbm, 121, rfl⟩
abbrev main_cst_3 : Ref sig .tc := ⟨.hbm, 122, rfl⟩
abbrev main_v25 : Ref sig .tc := ⟨.hbm, 123, rfl⟩
abbrev main_cst_4 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_cst_5 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩

abbrev nD : Nat := 1
abbrev τ : Topo := Topo.v7x

variable {F : FTy → Type} [FloatOps F]
-- ==== Proof.Tile.lean ====
/- What the fused kernel computes for one tile: 128 positions of one segment, 128 columns of one head. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic

variable {F : FTy → Type} [FloatOps F]

/-- The row at which segment `s` of a block begins leaves room for the segment's 128 rows. -/
theorem rows_fit (k : Fin 64) : S512x2048.Slices ![128 * ((63 - k.val) / 16), 0] S128x2048 := by
  revert k; decide

/-- A head's 128 columns fit in a segment's 2048. -/
theorem cols_fit (k : Fin 64) : S128x2048.Slices ![0, 128 * ((63 - k.val) % 16)] S128x128 := by
  revert k; decide

/-- A tile fits in the block. -/
theorem tile_fits (k : Fin 64) :
    S512x2048.Slices ![128 * ((63 - k.val) / 16), 128 * ((63 - k.val) % 16)] S128x128 := by
  revert k; decide

/-- The same fact as a store needs it. -/
theorem tile_inb (k : Fin 64) :
    ∀ a, (![128 * ((63 - k.val) / 16), 128 * ((63 - k.val) % 16)] : Fin 2 → ℕ) a + S128x128.size a ≤ S512x2048.size a := by
  revert k; decide

/-- The queries of one segment, their rows mixed by the table `p`. -/
def mixed (p : FVec F S128x128 .bf16) (q : FVec F S512x2048 .bf16) (r : ℕ) (h : S512x2048.Slices ![r, 0] S128x2048) :
    FVec F S128x2048 .bf16 :=
  truncf .bf16 (matmul dot_S128x128_S128x2048_S128x2048_1_0_0_1_n_n none p (extractStridedSlice S128x2048 ![r, 0] q h)
    (constant S128x2048 .f32 0x00000000#32)) bitsLt_bf16_f32

/-- The exponentials of one segment's scores in one head. -/
def expScores (q : FVec F S128x2048 .bf16) (k : FVec F S512x2048 .bf16) (r c : ℕ) (hq : S128x2048.Slices ![0, c] S128x128)
    (hk : S512x2048.Slices ![r, c] S128x128) : FVec F S128x128 .f32 :=
  exp (matmul dot_S128x128_S128x128_S128x128_1_1_0_0_n_n none (extractStridedSlice S128x128 ![0, c] q hq)
    (extractStridedSlice S128x128 ![r, c] k hk) (constant S128x128 .f32 0x00000000#32))

/-- One tile of the attention's result: the exponentials weigh the values, and each row is divided by its sum. -/
def tile (e : FVec F S128x128 .f32) (v : FVec F S512x2048 .bf16) (r c : ℕ)
    (hv : S512x2048.Slices ![r, c] S128x128) : FVec F S128x128 .bf16 :=
  shapeCast S128x128 (truncf .bf16 (mulf
    (matmul dot_S128x128_S128x128_S128x128_1_0_0_1_n_n none (truncf .bf16 e bitsLt_bf16_f32)
      (extractStridedSlice S128x128 ![r, c] v hv) (constant S128x128 .f32 0x00000000#32))
    (broadcastTo S128x128 (divf (broadcast S128x1 (Scalar.ofBits .f32 0x3F800000#32))
      (shapeCast S128x1 (multiReduction .add [1] S128 e 0x00000000#32 reduces_S128x128_S128 (.inl rfl) rfl)
        shapeCasts_S128_S128x1)) broadcasts_S128x1_S128x128)) bitsLt_bf16_f32) shapeCasts_S128x128_S128x128

/-- Tile `k`, in the order the last store comes first. -/
def tileOf (q k v : FVec F S512x2048 .bf16) (p : FVec F S128x128 .bf16) (i : Fin 64) : FVec F S128x128 .bf16 :=
  tile (expScores (mixed p q (128 * ((63 - i.val) / 16)) (rows_fit i)) k (128 * ((63 - i.val) / 16))
    (128 * ((63 - i.val) % 16)) (cols_fit i) (tile_fits i)) v (128 * ((63 - i.val) / 16)) (128 * ((63 - i.val) % 16)) (tile_fits i)

/-- The scratch block after the 64 tiles have been stored. -/
def acc (q k v : FVec F S512x2048 .bf16) (p : FVec F S128x128 .bf16) : Vec F S512x2048 .bf16 :=
  View.canon (List.ofFn fun i : Fin 64 =>
    (⟨Rect.unit ![128 * ((63 - i.val) / 16), 128 * ((63 - i.val) % 16)] S128x128.size (tile_inb i), tileOf q k v p i⟩ :
      View.Piece (Elt F) S512x2048 .bf16))

end Cert.KernelIdeal.Block

end
-- ==== Proof.Block.lean ====
/- What one grid point leaves in the output block. -/
module

public import proofs.«01_k».proof.Proof.Tile

@[expose] public section

set_option maxRecDepth 16384

noncomputable section

namespace Cert.KernelIdeal.Block

open Cert.KernelIdeal Cert.KernelIdeal.Gen Idealize.ShloMosaic

variable {F : FTy → Type} [FloatOps F]
variable (m : (ℓ : Loc nD τ sig) → Buf (Elt F) ℓ)

/-- A grid point writes the scratch block times the output projection. -/
theorem outs_eq (c : Dev nD) (t : Fin cfg0.N) :
    outsAt0 m c t = k0_pay1 (k0_pay267 (acc
      (k0_pay3 (iblk m c 0 t) (View.ld (iblk m c 1 t) (Rect.unit (s := S6144x2048) ![0, 0] S2048x2048.size inb_S6144x2048_S2048x2048_0_0)))
      (k0_pay4 (iblk m c 0 t) (View.ld (iblk m c 1 t) (Rect.unit (s := S6144x2048) ![2048, 0] S2048x2048.size inb_S6144x2048_S2048x2048_2048_0)))
      (k0_pay5 (iblk m c 0 t) (View.ld (iblk m c 1 t) (Rect.unit (s := S6144x2048) ![4096, 0] S2048x2048.size inb_S6144x2048_S2048x2048_4096_0)))
      (k0_pay6 (iblk m c 3 t))) (iblk m c 2 t)) := by
  unfold outsAt0
  frame_out
  refine congrArg k0_pay1 (congrArg (k0_pay267 · _) ?_)
  rw [View.readCov_eq_canon']
  exact (View.ld_unit_lit inb_S512x2048_S512x2048_0_0 _ (by decide)).trans rfl

end Cert.KernelIdeal.Block

end
-- ==== Proof.Attend.lean ====
/- The mathematics of one position of one head over the extended reals, without a program. -/
module

public import Idealize.ShloMosaic.Lib.Pointwise

@[expose] public section

noncomputable section

namespace Cert.Attend

open Idealize.ShloMosaic

/-- The position `b` of the group of 128 positions in which `i` lies. -/
def near {n : ℕ} (i : Fin n) (b : Fin 128) (h : 128 ∣ n := by decide) : Fin n :=
  ⟨128 * (i.val / 128) + b.val, by obtain ⟨k, rfl⟩ := h; have := i.isLt; have := b.isLt; omega⟩

/-- The place of `i` inside its group of 128 positions. -/
def within {n : ℕ} (i : Fin n) : Fin 128 := ⟨i.val % 128, Nat.mod_lt _ (by decide)⟩

/-- The reordering of 128 positions: two rows of 64, the second one backwards. -/
def turn (a : Fin 128) : Fin 128 := ⟨if a.val < 64 then a.val else 191 - a.val, by split <;> omega⟩

/-- The scale of the scores, as the programs write it. -/
def scale : EReal := Ideal.ofBits .f32 0x3DB504F3#32

/-- The matrix of the reordering, times the scale. -/
def table (a b : Fin 128) : EReal := if b = turn a then scale else 0

/-- Values weighed by the exponentials of scores, then scaled by one over the sum of the exponentials. -/
def soft (s v : Fin 128 → EReal) : EReal :=
  (∑ e, Ideal.exp (s e) * v e) * Ideal.div 1 (∑ e, Ideal.exp (s e))

/-- Values weighed by the exponentials of scores less the greatest score, each over the sum of those exponentials. -/
def softLessMax (s v : Fin 128 → EReal) : EReal :=
  ∑ e, Ideal.div (Ideal.exp (s e - Finset.univ.sup s)) (∑ e, Ideal.exp (s e - Finset.univ.sup s)) * v e

/-- One row of a linear layer: the product of a row with a row of weights. -/
def proj {n : ℕ} (x : Fin n → Fin 2048 → EReal) {r : ℕ} (w : Fin r → Fin 2048 → EReal) (i : Fin n) (j : Fin r) : EReal :=
  ∑ c, x i c * w j c

/-- Row `j` of the part of the weights that begins at row `r`. -/
def part (r : ℕ) (w : Fin 6144 → Fin 2048 → EReal) (j : Fin 2048) (h : r + 2048 ≤ 6144 := by decide) : Fin 2048 → EReal :=
  w ⟨r + j.val, by have := j.isLt; omega⟩

/-- Attention inside each group of 128 positions and of 128 columns, the query rows first mixed by the table `p`. -/
def mixedAttend {n : ℕ} (p : Fin 128 → Fin 128 → EReal) (q k v : Fin n → Fin 2048 → EReal) (i : Fin n) (j : Fin 2048)
    (h : 128 ∣ n := by decide) : EReal :=
  soft (fun e => ∑ d, (∑ b, p (within i) b * q (near i b h) (near j d)) * k (near i e h) (near j d))
    (fun e => v (near i e h) j)

/-- Attention inside each group of 128 positions and of 128 columns, queries, keys and values all reordered. -/
def turned {n : ℕ} (q k v : Fin n → Fin 2048 → EReal) (i : Fin n) (j : Fin 2048) (h : 128 ∣ n := by decide) : EReal :=
  softLessMax (fun e => ∑ d, (q (near i (turn (within i)) h) (near j d) * scale) * k (near i (turn e) h) (near j d))
    (fun e => v (near i (turn e) h) j)

/-- The fused layer: three linear layers, the attention, and the output's linear layer. -/
def fused {n : ℕ} (p : Fin 128 → Fin 128 → EReal) (x : Fin n → Fin 2048 → EReal) (w : Fin 6144 → Fin 2048 → EReal)
    (o : Fin 2048 → Fin 2048 → EReal) (i : Fin n) (j : Fin 2048) (h : 128 ∣ n := by decide) : EReal :=
  proj (fun i c => mixedAttend p (proj x fun j => part 0 w j) (proj x fun j => part 2048 w j) (proj x fun j => part 4096 w j)
    i c h) o i j

/-- The layer as it is stated: three linear layers, the reordered attention, and the output's linear layer. -/
def layer {n : ℕ} (x : Fin n → Fin 2048 → EReal) (w : Fin 6144 → Fin 2048 → EReal) (o : Fin 2048 → Fin 2048 → EReal)
    (i : Fin n) (j : Fin 2048) (h : 128 ∣ n := by decide) : EReal :=
  proj (fun i c => turned (proj x fun j => part 0 w j) (proj x fun j => part 2048 w j) (proj x fun j => part 4096 w j) i c h)
    o i j

/-- The fused layer reads its arguments element by element. -/
theorem fused_congr {n : ℕ} {p p' : Fin 128 → Fin 128 → EReal} {x x' : Fin n → Fin 2048 → EReal}
    {w w' : Fin 6144 → Fin 2048 → EReal} {o o' : Fin 2048 → Fin 2048 → EReal} (hp : ∀ a b, p a b = p' a b)
    (hx : ∀ i d, x i d = x' i d) (hw : ∀ r d, w r d = w' r d) (ho : ∀ r d, o r d = o' r d) (i : Fin n) (j : Fin 2048)
    (h : 128 ∣ n) : fused p x w o i j h = fused p' x' w' o' i j h := by
  rw [funext fun a => funext (hp a), funext fun i => funext (hx i), funext fun r => funext (hw r),
    funext fun r => funext (ho r)]

/-- A block of rows is computed as the same rows of the whole array are: no group of 128 rows crosses a block's edge. -/
theorem fused_block (p : Fin 128 → Fin 128 → EReal) (x : Fin 4096 → Fin 2048 → EReal) (w : Fin 6144 → Fin 2048 → EReal)
    (o : Fin 2048 → Fin 2048 → EReal) (g : Fin 8) (i : Fin 512) (j : Fin 2048) :
    fused p (fun i c => x ⟨512 * g.val + i.val, by omega⟩ c) w o i j = fused p x w o ⟨512 * g.val + i.val, by omega⟩ j := by
  have hw : within (⟨512 * g.val + i.val, by omega⟩ : Fin 4096) = within i := Fin.ext (by simp only [within]; omega)
  have hn : ∀ b, near (⟨512 * g.val + i.val, by omega⟩ : Fin 4096) b
      = ⟨512 * g.val + (near i b).val, by have := (near i b).isLt; omega⟩ := fun b => Fin.ext (by simp only [near]; omega)
  simp only [fused, mixedAttend, proj, hw, hn]

end Cert.Attend

end
-- ==== Proof.Read.lean ====
/- What one grid point leaves in the output block, read at an index over the extended reals. -/
module

public import proofs.«01_k».proof.Proof.Block
public import proofs.«01_k».proof.Proof.Attend

@[expose] public section

set_option maxRecDepth 16384

noncomputable section

namespace Cert.KernelIdeal.Block

open Cert.KernelIdeal Cert.KernelIdeal.Gen Idealize.ShloMosaic Cert.Attend

/-- A mixed query row is the table's row times the segment's query rows. -/
theorem mixed_apply (p : FVec Ideal S128x128 .bf16) (q : FVec Ideal S512x2048 .bf16) (r : ℕ)
    (h : S512x2048.Slices ![r, 0] S128x2048) (i : Fin 512) (hi : r = 128 * (i.val / 128)) (a : Fin 128) (j : Fin 2048) :
    mixed p q r h (ix2 a j) = ∑ b, p (ix2 a b) * q (ix2 (near i b) j) := by
  subst hi
  pointwise [mixed]
  rfl

/-- An exponential of a score: the queries and keys are multiplied over the head's 128 columns. -/
theorem expScores_apply (q : FVec Ideal S128x2048 .bf16) (k : FVec Ideal S512x2048 .bf16) (r c : ℕ)
    (hq : S128x2048.Slices ![0, c] S128x128) (hk : S512x2048.Slices ![r, c] S128x128)
    (i : Fin 512) (hi : r = 128 * (i.val / 128)) (j : Fin 2048) (hj : c = 128 * (j.val / 128)) (a e : Fin 128) :
    expScores q k r c hq hk (ix2 a e) = Ideal.exp (∑ d, q (ix2 a (near j d)) * k (ix2 (near i e) (near j d))) := by
  subst hi hj
  pointwise [expScores]
  rfl

/-- An element of a tile. -/
theorem tile_apply (e : FVec Ideal S128x128 .f32) (v : FVec Ideal S512x2048 .bf16) (r c : ℕ)
    (hv : S512x2048.Slices ![r, c] S128x128) (i : Fin 512) (hi : r = 128 * (i.val / 128))
    (j : Fin 2048) (hj : c = 128 * (j.val / 128)) (a d : Fin 128) :
    tile e v r c hv (ix2 a d)
      = (∑ b, e (ix2 a b) * v (ix2 (near i b) (near j d))) * Ideal.div 1 (∑ b, e (ix2 a b)) := by
  subst hi hj
  pointwise [tile]
  rfl

/-- The scratch block at a row and a column: attention inside the row's segment and the column's head. -/
theorem acc_apply (q k v : FVec Ideal S512x2048 .bf16) (p : FVec Ideal S128x128 .bf16) (i : Fin 512) (j : Fin 2048) :
    acc q k v p (ix2 i j)
      = soft (fun e => ∑ d, (∑ b, p (ix2 (within i) b) * q (ix2 (near i b) (near j d))) * k (ix2 (near i e) (near j d)))
          (fun e => v (ix2 (near i e) j)) := by
  refine View.canon_ofFn_unit_eq_of_forall _ _ _ _ _ _ ⟨⟨63 - (16 * (i.val / 128) + j.val / 128), by omega⟩, ?_⟩ ?_
  · intro b
    have hi := i.isLt
    have hj := j.isLt
    match b with
    | 0 => exact ⟨show 128 * _ ≤ i.val by dsimp only; omega, show i.val < 128 * _ + 128 by dsimp only; omega⟩
    | 1 => exact ⟨show 128 * _ ≤ j.val by dsimp only; omega, show j.val < 128 * _ + 128 by dsimp only; omega⟩
  · intro n x hx
    obtain ⟨a, d, rfl⟩ : ∃ (a d : Fin 128), x = ix2 a d := ⟨x 0, x 1, eq_ix2 _⟩
    have h0 : i.val = 128 * ((63 - n.val) / 16) + a.val := hx 0
    have h1 : j.val = 128 * ((63 - n.val) % 16) + d.val := hx 1
    have ha := a.isLt
    have hd := d.isLt
    have hi : 128 * ((63 - n.val) / 16) = 128 * (i.val / 128) := by omega
    have hj : 128 * ((63 - n.val) % 16) = 128 * (j.val / 128) := by omega
    have hw : within i = a := Fin.ext (show i.val % 128 = a.val by omega)
    have hn : near j d = j := Fin.ext (show 128 * (j.val / 128) + d.val = j.val by omega)
    rw [tileOf, tile_apply _ _ _ _ _ i hi j hj, soft, hw, hn]
    simp only [expScores_apply _ _ _ _ _ _ i hi j hj, mixed_apply _ _ _ _ i hi]

/-- The queries of a block: a linear layer of the block's rows. -/
theorem query_apply (x : Vec Ideal S1x512x2048 .f32) (w : Vec Ideal S2048x2048 .bf16) (i : Fin 512) (j : Fin 2048) :
    k0_pay3 x w (ix2 i j) = proj (fun i c => x (ix3 0 i c)) (fun j c => w (ix2 j c)) i j := by
  pointwise [k0_pay3, k0_pay2]
  rfl

/-- The keys of a block, likewise. -/
theorem key_apply (x : Vec Ideal S1x512x2048 .f32) (w : Vec Ideal S2048x2048 .bf16) (i : Fin 512) (j : Fin 2048) :
    k0_pay4 x w (ix2 i j) = proj (fun i c => x (ix3 0 i c)) (fun j c => w (ix2 j c)) i j := query_apply x w i j

/-- The values of a block, likewise. -/
theorem value_apply (x : Vec Ideal S1x512x2048 .f32) (w : Vec Ideal S2048x2048 .bf16) (i : Fin 512) (j : Fin 2048) :
    k0_pay5 x w (ix2 i j) = proj (fun i c => x (ix3 0 i c)) (fun j c => w (ix2 j c)) i j := query_apply x w i j

/-- The last product of a grid point: the scratch block times the output weights. -/
theorem out_apply (a : Vec Ideal S512x2048 .bf16) (w : Vec Ideal S2048x2048 .bf16) (i : Fin 512) (j : Fin 2048) :
    k0_pay1 (k0_pay267 a w) (ix3 0 i j) = proj (fun i c => a (ix2 i c)) (fun j c => w (ix2 j c)) i j := by
  pointwise [k0_pay1, k0_pay267]
  rfl

end Cert.KernelIdeal.Block

end
-- ==== Proof.Array.lean ====
/- What the kernel's result array holds after the run, as the fused layer of the argument arrays. -/
module

public import proofs.«01_k».proof.Proof.Read

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem Cert.Attend

/-! ## What the host's operations leave in the arrays the kernel reads -/

section Host

variable {F : FTy → Type} [FloatOps F] (m : (ℓ : Loc nD τ sig) → Buf (Elt F) ℓ) (c : Dev nD)

/-- The input, its rows in sixteen blocks. -/
theorem V_input : V m c main_v0 = shapeCast S16x512x2048 (m ((c : Thread nD τ).loc main_arg0)) shapeCasts_S2x4096x2048_S16x512x2048 := by
  show StableHlo.after hostOps0 _ (Proc.devRef .tc main_v0) = _
  after_results
  rfl

/-- The weights of queries, keys and values, narrowed. -/
theorem V_weights : V m c main_v1 = truncf (s := S6144x2048) .bf16 (m ((c : Thread nD τ).loc main_arg1)) bitsLt_bf16_f32 := by
  show StableHlo.after hostOps0 _ (Proc.devRef .tc main_v1) = _
  after_results

/-- The output's weights, narrowed. -/
theorem V_out : V m c main_v2 = truncf (s := S2048x2048) .bf16 (m ((c : Thread nD τ).loc main_arg2)) bitsLt_bf16_f32 := by
  show StableHlo.after hostOps0 _ (Proc.devRef .tc main_v2) = _
  after_results

/-- The table of the query's rows: the reordering's matrix times the scale, narrowed. -/
theorem V_table : V m c main_v5 = truncf (s := S128x128) .bf16
    (mulf (fun i => FloatOps.ofBits .f32 (lit0 (S128x128.rowMajor i)))
      (broadcastInDim S128x128 ![] bcast_S_S128x128 (constant S_ .f32 0x3DB504F3#32))) bitsLt_bf16_f32 := by
  show StableHlo.after hostOps0 _ (Proc.devRef .tc main_v5) = _
  after_results
  rfl

end Host

variable (m : (ℓ : Loc nD τ sig) → Buf (Elt Ideal) ℓ) (c : Dev nD)

/-- Point `t` reads and writes block `t`, all of it. -/
theorem index_rows : ∀ t : Fin cfg0.N, win0_0.index t = ![t.val, 0, 0] ∧ win0_4.index t = ![t.val, 0, 0] :=
  (by decide +kernel : ∀ t : Fin grid0.N, win0_0.index t = ![t.val, 0, 0] ∧ win0_4.index t = ![t.val, 0, 0])

/-- Every point reads the whole of the weights and of the table. -/
theorem index_whole : ∀ t : Fin cfg0.N, win0_1.index t = ![0, 0] ∧ win0_2.index t = ![0, 0] ∧ win0_3.index t = ![0, 0] :=
  (by decide +kernel : ∀ t : Fin grid0.N, win0_1.index t = ![0, 0] ∧ win0_2.index t = ![0, 0] ∧ win0_3.index t = ![0, 0])

/-- The rows of one block of the input. -/
theorem input_block (t : Fin cfg0.N) (i : Fin 512) (j : Fin 2048) :
    iblk m c 0 t (ix3 0 i j) = V m c main_v0 (ix3 (t.cast N_0) i j) := by
  blk_simp [iblk]
  exact congrArg _ (by blk_ext [(index_rows t).1]; rfl)

/-- The weights as a point reads them. -/
theorem weights_block (t : Fin cfg0.N) (i : Fin 6144) (j : Fin 2048) :
    iblk m c 1 t (ix2 i j) = V m c main_v1 (ix2 i j) := by
  blk_simp [iblk]
  exact congrArg _ (by blk_ext [(index_whole t).1])

/-- The output's weights as a point reads them. -/
theorem out_block (t : Fin cfg0.N) (i : Fin 2048) (j : Fin 2048) :
    iblk m c 2 t (ix2 i j) = V m c main_v2 (ix2 i j) := by
  blk_simp [iblk]
  exact congrArg _ (by blk_ext [(index_whole t).2.1])

/-- The table as a point reads it. -/
theorem table_block (t : Fin cfg0.N) (i : Fin 128) (j : Fin 128) :
    k0_pay6 (iblk m c 3 t) (ix2 i j) = V m c main_v5 (ix2 i j) := by
  pointwise [k0_pay6]
  blk_simp [iblk]
  exact congrArg _ (by blk_ext [(index_whole t).2.2])

/-- A part of the weights, loaded from row `r` on. -/
theorem part_block (t : Fin cfg0.N) (r : ℕ) (h : r + 2048 ≤ 6144) (hr) (j d : Fin 2048) :
    View.ld (iblk m c 1 t) (Rect.unit (s := S6144x2048) ![r, 0] S2048x2048.size hr) (ix2 j d)
      = part r (fun r d => V m c main_v1 (ix2 r d)) j h d := by
  rw [View.ld_apply]
  refine Eq.trans (congrArg (iblk m c 1 t) ?_) (weights_block m c t ⟨r + j.val, by omega⟩ d)
  refine funext fun a => Fin.ext ?_
  rw [Rect.idx_unit_val]
  match a with
  | 0 => rfl
  | 1 => exact Nat.zero_add _

/-- What a grid point leaves is the fused layer of its rows. -/
theorem outs_apply (t : Fin cfg0.N) (i : Fin 512) (j : Fin 2048) :
    outsAt0 m c t (ix3 0 i j)
      = fused (fun a b => V m c main_v5 (ix2 a b)) (fun i d => V m c main_v0 (ix3 (t.cast N_0) i d))
          (fun r d => V m c main_v1 (ix2 r d)) (fun r d => V m c main_v2 (ix2 r d)) i j := by
  rw [outs_eq, out_apply]
  simp only [acc_apply, fused, mixedAttend, table_block, out_block, query_apply, key_apply, value_apply, input_block, part_block m c t 0 (by decide), part_block m c t 2048 (by decide), part_block m c t 4096 (by decide)]

/-- The result array of the kernel, element by element. -/
theorem arr_eq : (dats m 0 c).arrAt 4 cfg0.N = fun y : S16x512x2048.Idx =>
      fused (fun a b => V m c main_v5 (ix2 a b)) (fun i d => V m c main_v0 (ix3 (y 0) i d))
          (fun r d => V m c main_v1 (ix2 r d)) (fun r d => V m c main_v2 (ix2 r d)) (y 1) (y 2) := by
  refine (dats m 0 c).arrAt_eq_of_covers 4 _ (by decide +kernel) fun t hf y => ?_
  blk_simp
  rw [after0_4]
  obtain ⟨i, j, rfl⟩ : ∃ (i : Fin 512) (j : Fin 2048), y = ix3 0 i j := ⟨y 1, y 2, by
    refine (eq_ix3 _).trans ?_
    congr 1
    exact Subsingleton.elim _ _⟩
  have e : (win0_4.blk t).view.emb (ix3 0 i j) = ix3 (t.cast N_0) i j := by blk_ext [(index_rows t).2]; rfl
  refine (outs_apply m c t i j).trans ?_
  rw [e]
  rfl

/-! ## The result after the host's last operation -/

/-- The host reshapes the kernel's array into the result. -/
theorem result_eq : Pipeline.afterTail₀ cfgs (dats m) 0 (V0 m) [hostOps1] c main_v7
    = shapeCast S2x4096x2048 ((dats m 0 c).arrAt 4 cfg0.N) shapeCasts_S16x512x2048_S2x4096x2048 := by
  unfold Pipeline.afterTail₀
  show StableHlo.after hostOps1 _ (Proc.devRef .tc main_v7) = _
  after_results
  exact congrArg (shapeCast S2x4096x2048 · shapeCasts_S16x512x2048_S2x4096x2048)
    (Pipeline.withArrays_arr _ launch0.win.arr_inj c (V0 m c) _ 4)

/-- The idealized kernel runs; its result is the host's reshape of the kernel's array, and its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v7)
        = shapeCast S2x4096x2048 ((dats m 0 c).arrAt 4 cfg0.N) shapeCasts_S16x512x2048_S2x4096x2048
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Array

end
-- ==== Proof.Tables.lean ====
/- The two programs' constant tables, entry by entry. -/
module

public import proofs.«01_k».proof.KernelIdeal
public import proofs.«01_k».proof.ReferenceIdeal

@[expose] public section

set_option maxRecDepth 16384

noncomputable section

namespace Cert.Tables

/-- The kernel's table is the matrix of a reordering of 128 positions: the first 64 stay, the last 64 are reversed. -/
theorem perm_words : ∀ a b : Fin 128, Cert.KernelIdeal.lit0t (128 * a.val + b.val)
    = if b.val = (if a.val < 64 then a.val else 191 - a.val) then 0x3F800000#32 else 0x00000000#32 := by
  decide +kernel

/-- The reference's table lists the positions of a 64 × 64 image row by row, every second row backwards. -/
theorem snake_words : ∀ n : Fin 4096, Cert.ReferenceIdeal.lit0t n.val
    = BitVec.ofNat 32 (if n.val / 64 % 2 = 0 then n.val else 64 * (n.val / 64) + 63 - n.val % 64) := by
  decide +kernel

end Cert.Tables

end
-- ==== Proof.Result.lean ====
/- The kernel's result, element by element, as a function of the argument arrays. -/
module

public import proofs.«01_k».proof.Proof.Array
public import proofs.«01_k».proof.Proof.Tables

@[expose] public section

set_option maxRecDepth 16384

noncomputable section

namespace Cert.KernelIdeal.Array

open Cert.KernelIdeal Cert.KernelIdeal.Gen Idealize.ShloMosaic Idealize.ShloMosaic.TcCoe Cert.Attend

variable (m : (ℓ : Loc nD τ sig) → Buf (Elt Ideal) ℓ) (c : Dev nD)

/-- The kernel's table: row `a` holds the scale at the position that `a` is reordered from, and zero elsewhere. -/
theorem table_apply (a b : Fin 128) : V m c main_v5 (ix2 a b) = table a b := by
  have hl : lit0 (S128x128.rowMajor (ix2 a b)) = lit0t (128 * a.val + b.val) :=
    congrArg lit0t ((rowMajor_val2 _ 128 rfl).trans (by simp only [ix2_0, ix2_1]; omega))
  have hw : lit0t (128 * a.val + b.val) = if b.val = (turn a).val then 0x3F800000#32 else 0x00000000#32 := Cert.Tables.perm_words a b
  rw [V_table]
  pointwise []
  rw [hl, hw, table]
  by_cases h : b = turn a
  · rw [if_pos h, if_pos (congrArg Fin.val h), Ideal.ofBits_one_f32, one_mul, scale]
  · rw [if_neg h, if_neg fun e => h (Fin.ext e), Ideal.ofBits_zero_f32, zero_mul]

/-- The rows of the input's blocks, in the array as it was given. -/
theorem input_apply (b : Fin 2) (g : Fin 8) (i : Fin 512) (d : Fin 2048) :
    V m c main_v0 (ix3 ⟨8 * b.val + g.val, by omega⟩ i d)
      = m ((c : Thread nD τ).loc main_arg0) (ix3 b ⟨512 * g.val + i.val, by omega⟩ d) := by
  rw [V_input]
  exact congrArg (m ((c : Thread nD τ).loc main_arg0)) (Shape.reshapeEquiv_eq_of_vals _ _ _ _ _ (rowMajor_val3 _ 8388608 2048 rfl rfl)
    (rowMajor_val3 _ 1048576 2048 rfl rfl) (by simp only [ix3_0, ix3_1, ix3_2]; omega))

/-- The weights of queries, keys and values as they were given. -/
theorem weights_apply (r : Fin 6144) (d : Fin 2048) :
    V m c main_v1 (ix2 r d) = m ((c : Thread nD τ).loc main_arg1) (ix2 r d) := by
  rw [V_weights]
  rfl

/-- The output's weights as they were given. -/
theorem out_apply (r d : Fin 2048) : V m c main_v2 (ix2 r d) = m ((c : Thread nD τ).loc main_arg2) (ix2 r d) := by
  rw [V_out]
  rfl

/-- The result's element. -/
theorem result_apply (b : Fin 2) (n : Fin 4096) (o : Fin 2048) :
    shapeCast S2x4096x2048 ((dats m 0 c).arrAt 4 cfg0.N) shapeCasts_S16x512x2048_S2x4096x2048 (ix3 b n o)
      = fused table (fun n d => m ((c : Thread nD τ).loc main_arg0) (ix3 b n d))
          (fun r d => m ((c : Thread nD τ).loc main_arg1) (ix2 r d)) (fun r d => m ((c : Thread nD τ).loc main_arg2) (ix2 r d)) n o := by
  obtain ⟨g, i, rfl⟩ : ∃ (g : Fin 8) (i : Fin 512), n = ⟨512 * g.val + i.val, by omega⟩ :=
    ⟨⟨n.val / 512, by omega⟩, ⟨n.val % 512, by omega⟩, Fin.ext (by simp only; omega)⟩
  have hr : Shape.reshapeEquiv shapeCasts_S16x512x2048_S2x4096x2048 (ix3 b (⟨512 * g.val + i.val, by omega⟩ : Fin 4096) o)
      = (ix3 (⟨8 * b.val + g.val, by omega⟩ : Fin 16) i o : S16x512x2048.Idx) :=
    Shape.reshapeEquiv_eq_of_vals _ _ _ _ _ (rowMajor_val3 _ 1048576 2048 rfl rfl)
      (rowMajor_val3 _ 8388608 2048 rfl rfl) (by simp only [ix3_0, ix3_1, ix3_2]; omega)
  rw [arr_eq, ← fused_block, Pointwise.shapeCast_apply, hr]
  exact fused_congr (table_apply m c) (fun i d => input_apply m c b g i d) (weights_apply m c) (out_apply m c) i o _

end Cert.KernelIdeal.Array

end
-- ==== Proof.Snake.lean ====
/- The reference's integer side: the reordering's table of positions, the take along it, and the mask that leaves every score. -/
module

public import proofs.«01_k».proof.Proof.Gen.ReferenceIdeal
public import proofs.«01_k».proof.Proof.Tables
public import Idealize.ShloMosaic.Lib.Pointwise

@[expose] public section

set_option maxRecDepth 16384

noncomputable section

namespace Cert.ReferenceIdeal.Snake

open Cert.ReferenceIdeal Cert.ReferenceIdeal.Gen Idealize.ShloMosaic

/-- The position that position `n` of the reordered sequence comes from: rows of 64, every second one backwards. -/
def source (n : Fin 4096) : Fin 4096 :=
  ⟨if n.val / 64 % 2 = 0 then n.val else 64 * (n.val / 64) + 63 - n.val % 64, by split <;> omega⟩

/-- The literal table of positions. -/
def table : IVec S4096 32 := fun i => lit0 (S4096.rowMajor i)

/-- The positions as the take reads them: a negative one would count from the end. -/
def words : IVec S4096x1 32 :=
  broadcastInDim S4096x1 ![0] bcast_S4096_S4096x1_0
    (select (cmpi .slt table (broadcastInDim S4096 ![] bcast_S_S4096 (constantI S_ 32 0#32)))
      (addi table (broadcastInDim S4096 ![] bcast_S_S4096 (constantI S_ 32 4096#32))) table)

/-- Whether each position lies inside the array. -/
def inRange : IVec S4096 1 :=
  Host.reduce IntOp.andi
    (andi (cmpi .sge words (broadcastInDim S4096x1 ![] bcast_S_S4096x1 (constantI S_ 32 0#32)))
      (cmpi .sle words (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The reordering of the positions of every head. -/
def take (y : FVec Ideal S2x16x4096x128 .f32) : FVec Ideal S2x16x4096x128 .f32 :=
  select (broadcastInDim S2x16x4096x128 ![2] bcast_S4096_S2x16x4096x128_2 inRange)
    (Host.gather gather_S2x16x4096x128_S4096x1_S2x16x4096x128_013_2_n_n_2_1_2161128 y words)
    (broadcastInDim S2x16x4096x128 ![] bcast_S_S2x16x4096x128 (constant S_ .f32 0x7FC00000#32))

/-- The dilation as the remainder uses it: one. -/
def step : IVec S_ 32 :=
  select (cmpi .eq (id (constantI S_ 32 1#32)) (constantI S_ 32 0#32)) (constantI S_ 32 1#32) (id (constantI S_ 32 1#32))

/-- The remainders of the columns by the dilation. -/
def rems : IVec S128 32 := Host.remsi (iotaInDim S128 32 0) (broadcastInDim S128 ![] bcast_S_S128 step)

/-- Which columns of a segment's scores are kept. -/
def kept : IVec S128 1 :=
  cmpi .eq
    (select
      (andi
        (cmpi .ne (cmpi .slt rems (broadcastInDim S128 ![] bcast_S_S128 (constantI S_ 32 0#32)))
          (broadcastInDim S128 ![] bcast_S_S128 (cmpi .slt step (constantI S_ 32 0#32))))
        (cmpi .ne rems (broadcastInDim S128 ![] bcast_S_S128 (constantI S_ 32 0#32))))
      (addi rems (broadcastInDim S128 ![] bcast_S_S128 step)) rems)
    (broadcastInDim S128 ![] bcast_S_S128 (constantI S_ 32 0#32))

/-- The table's word at a position. -/
theorem table_apply (n : Fin 4096) : table (ix1 n) = BitVec.ofNat 32 (source n).val := by
  have hl : lit0 (S4096.rowMajor (ix1 n)) = lit0t n.val := congrArg lit0t (rowMajor_val1 _)
  exact hl.trans (Cert.Tables.snake_words n)

/-- A position's word, read signed, is the position. -/
theorem toInt_word (k : Fin 4096) : (BitVec.ofNat 32 k.val).toInt = k.val := by
  have := k.isLt
  rw [BitVec.toInt_eq_toNat_of_lt (by rw [BitVec.toNat_ofNat]; omega), BitVec.toNat_ofNat]
  omega

/-- The word a position's take reads: none is negative. -/
theorem words_apply (n : Fin 4096) : words (ix2 n 0) = BitVec.ofNat 32 (source n).val := by
  pointwise [words]
  rw [table_apply]
  have hs : IntOp.cmpi .slt (BitVec.ofNat 32 (source n).val) 0#32 = 0#1 := by
    have : ¬ ((BitVec.ofNat 32 (source n).val).toInt < (0#32).toInt) := by
      rw [toInt_word, BitVec.toInt_zero]
      omega
    simp only [IntOp.cmpi, BitVec.slt, decide_eq_false this]
    rfl
  rw [hs]
  rfl

/-- Every position lies inside the array. -/
theorem inRange_apply (n : Fin 4096) : inRange (ix1 n) = 1#1 := by
  have hl := (source n).isLt
  have hge : IntOp.cmpi .sge (BitVec.ofNat 32 (source n).val) 0#32 = 1#1 := by
    have : (0#32).toInt ≤ (BitVec.ofNat 32 (source n).val).toInt := by
      rw [toInt_word, BitVec.toInt_zero]
      omega
    simp only [IntOp.cmpi, BitVec.sle, decide_eq_true this]
    rfl
  have hle : IntOp.cmpi .sle (BitVec.ofNat 32 (source n).val) 4095#32 = 1#1 := by
    have : (BitVec.ofNat 32 (source n).val).toInt ≤ (4095#32).toInt := by
      rw [toInt_word, show (4095#32).toInt = 4095 from rfl]
      omega
    simp only [IntOp.cmpi, BitVec.sle, decide_eq_true this]
    rfl
  unfold inRange
  rw [Host.reduce_eq_fold_single IntOp.andi _ _ _ (by decide : S4096x1.Reduces [1] S4096)]
  have hf : ∀ q : S4096x1.Idx, q 0 = n → andi (cmpi .sge words (broadcastInDim S4096x1 ![] bcast_S_S4096x1 (constantI S_ 32 0#32)))
      (cmpi .sle words (broadcastInDim S4096x1 ![0, 1] bcast_S1x1_S4096x1_0_1
        (broadcastInDim S1x1 ![1] bcast_S1_S1x1_1 (constantI S1 32 4095#32)))) q = 1#1 := by
    intro q hq
    obtain ⟨a, e, rfl⟩ : ∃ (a : Fin 4096) (e : Fin 1), q = ix2 a e := ⟨q 0, q 1, eq_ix2 _⟩
    obtain rfl : a = n := hq
    obtain rfl : e = 0 := Subsingleton.elim _ _
    pointwise []
    rw [words_apply, hge, hle]
    rfl
  have hu : (Finset.univ : Finset (Fin (S4096x1.size 1))) = {⟨0, by decide⟩} := by decide
  rw [hu, Finset.fold_singleton, Function.comp_apply, hf _ rfl]
  rfl

/-- The take of an array along a table of words that lie inside it. -/
theorem gather_apply (y : FVec Ideal S2x16x4096x128 .f32) (w : IVec S4096x1 32) (b : Fin 2) (h : Fin 16) (n k : Fin 4096) (d : Fin 128)
    (hw : w (ix2 n 0) = BitVec.ofNat 32 k.val) :
    Host.gather gather_S2x16x4096x128_S4096x1_S2x16x4096x128_013_2_n_n_2_1_2161128 y w (ix4 b h n d) = y (ix4 b h k d) := by
  have hi : gather_S2x16x4096x128_S4096x1_S2x16x4096x128_013_2_n_n_2_1_2161128.siIdx (ix4 b h n d) ⟨0, by decide⟩ = ix2 n 0 := by
    funext c
    match c with
    | 0 => rfl
    | 1 => rfl
  have hk := k.isLt
  refine congrArg y (funext fun a => Fin.ext ?_)
  match a with
  | 0 => exact Nat.zero_add _
  | 1 => exact Nat.zero_add _
  | 2 =>
    show min (w (GatherDims.siIdx _ (ix4 b h n d) ⟨0, _⟩)).toInt.toNat 4095 + 0 + 0 = k.val
    rw [hi, hw, toInt_word]
    omega
  | 3 => exact Nat.zero_add _

/-- The reordered array at an index. -/
theorem take_apply (y : FVec Ideal S2x16x4096x128 .f32) (b : Fin 2) (h : Fin 16) (n : Fin 4096) (d : Fin 128) :
    take y (ix4 b h n d) = y (ix4 b h (source n) d) := by
  unfold take
  pointwise []
  rw [inRange_apply, gather_apply y words b h n (source n) d (words_apply n)]
  rfl

/-- No column of the scores is masked. -/
theorem kept_apply (a : Fin 128) : kept (ix1 a) = 1#1 := by
  have hr : rems (ix1 a) = 0#32 := by
    show IntOp.remsi .host (BitVec.ofNat 32 a.val) 1#32 = 0#32
    revert a
    decide
  pointwise [kept]
  rw [hr]
  rfl

end Cert.ReferenceIdeal.Snake

end
-- ==== Proof.Reference.lean ====
/- The reference's result as named functions of its arguments, each read at an index. -/
module

public import proofs.«01_k».proof.Proof.Gen.ReferenceIdeal.Run
public import proofs.«01_k».proof.Proof.Snake
public import proofs.«01_k».proof.Proof.Attend

@[expose] public section

set_option maxRecDepth 16384

noncomputable section

namespace Cert.ReferenceIdeal.Snake

open Cert.ReferenceIdeal Cert.ReferenceIdeal.Gen Idealize.ShloMosaic Idealize.ShloMosaic.TcCoe Cert.Attend

/-- Queries, keys and values of every head. -/
def qkv (x : FVec Ideal S2x4096x2048 .f32) (w : FVec Ideal S6144x2048 .f32) : FVec Ideal S3x2x16x4096x128 .f32 :=
  transpose S3x2x16x4096x128 [2, 0, 3, 1, 4]
    (shapeCast S2x4096x3x16x128
      (Host.dotGeneral dot_S2x4096x2048_S2048x6144_S2x4096x6144_2_0_01_1_n_n none x
        (transpose S2048x6144 [1, 0] w transposes_S6144x2048_S2048x6144_1_0))
      shapeCasts_S2x4096x6144_S2x4096x3x16x128)
    transposes_S2x4096x3x16x128_S3x2x16x4096x128_2_0_3_1_4

/-- One of the three, by its number. -/
def third (r : ℕ) (h : S3x2x16x4096x128.Slices ![r, 0, 0, 0, 0] S1x2x16x4096x128) (x : FVec Ideal S2x4096x2048 .f32)
    (w : FVec Ideal S6144x2048 .f32) : FVec Ideal S2x16x4096x128 .f32 :=
  shapeCast S2x16x4096x128 (extractStridedSlice S1x2x16x4096x128 ![r, 0, 0, 0, 0] (qkv x w) h)
    shapeCasts_S1x2x16x4096x128_S2x16x4096x128

/-- An array of heads cut into segments of 128 positions. -/
def segments (y : FVec Ideal S2x16x4096x128 .f32) : FVec Ideal S2x16x32x128x128 .f32 :=
  shapeCast S2x16x32x128x128 y shapeCasts_S2x16x4096x128_S2x16x32x128x128

/-- The queries, reordered and scaled. -/
def scaled (y : FVec Ideal S2x16x4096x128 .f32) : FVec Ideal S2x16x4096x128 .f32 :=
  mulf (take y) (broadcastInDim S2x16x4096x128 ![] bcast_S_S2x16x4096x128 (constant S_ .f32 0x3DB504F3#32))

/-- The masked scores of every segment. -/
def scores (q k : FVec Ideal S2x16x32x128x128 .f32) : FVec Ideal S2x16x32x128x128 .f32 :=
  select
    (broadcastInDim S2x16x32x128x128 ![0, 1, 2, 3, 4] bcast_S1x1x1x1x128_S2x16x32x128x128_0_1_2_3_4
      (broadcastInDim S1x1x1x1x128 ![4] bcast_S128_S1x1x1x1x128_4 kept))
    (Host.dotGeneral dot_S2x16x32x128x128_S2x16x32x128x128_S2x16x32x128x128_4_4_3_3_012_012 none q k)
    (broadcastInDim S2x16x32x128x128 ![] bcast_S_S2x16x32x128x128 (id (constant S_ .f32 0xFF800000#32)))

/-- A row's value, repeated along the row. -/
def along (y : FVec Ideal S2x16x32x128 .f32) : FVec Ideal S2x16x32x128x128 .f32 :=
  broadcastInDim S2x16x32x128x128 ![0, 1, 2, 3, 4] bcast_S2x16x32x128x1_S2x16x32x128x128_0_1_2_3_4
    (broadcastInDim S2x16x32x128x1 ![0, 1, 2, 3] bcast_S2x16x32x128_S2x16x32x128x1_0_1_2_3 y)

/-- The greatest element of each row. -/
def rowMax (s : FVec Ideal S2x16x32x128x128 .f32) : FVec Ideal S2x16x32x128 .f32 :=
  maximumf (broadcastInDim S2x16x32x128 ![] bcast_S_S2x16x32x128 (constant S_ .f32 0xFF800000#32))
    (Host.reduce FloatOps.maximumf s (constant S_ .f32 0xFF800000#32) reducesTo_S2x16x32x128x128_S2x16x32x128_d4 h_S_)

/-- The exponentials of the scores less their row's greatest. -/
def exps (s : FVec Ideal S2x16x32x128x128 .f32) : FVec Ideal S2x16x32x128x128 .f32 := Host.exp (subf s (along (rowMax s)))

/-- The weights: exponentials over their row's sum. -/
def weights (e : FVec Ideal S2x16x32x128x128 .f32) : FVec Ideal S2x16x32x128x128 .f32 :=
  Host.divf e (along (Host.reduceAdd e (constant S_ .f32 0x00000000#32) reducesTo_S2x16x32x128x128_S2x16x32x128_d4 h_S_))

/-- The weighted values of every head, put back beside one another as columns. -/
def columns (a v : FVec Ideal S2x16x32x128x128 .f32) : FVec Ideal S2x4096x2048 .f32 :=
  shapeCast S2x4096x2048
    (transpose S2x4096x16x128 [0, 2, 1, 3]
      (shapeCast S2x16x4096x128
        (Host.dotGeneral dot_S2x16x32x128x128_S2x16x32x128x128_S2x16x32x128x128_4_3_3_4_012_012 none a v)
        shapeCasts_S2x16x32x128x128_S2x16x4096x128)
      transposes_S2x16x4096x128_S2x4096x16x128_0_2_1_3)
    shapeCasts_S2x4096x16x128_S2x4096x2048

/-- The attention's rows of the whole input. -/
def attention (x : FVec Ideal S2x4096x2048 .f32) (w : FVec Ideal S6144x2048 .f32) : FVec Ideal S2x4096x2048 .f32 :=
  columns
    (weights (exps (scores (segments (scaled (third 0 slices_S3x2x16x4096x128_S1x2x16x4096x128_0_0_0_0_0 x w)))
      (segments (take (third 1 slices_S3x2x16x4096x128_S1x2x16x4096x128_1_0_0_0_0 x w))))))
    (segments (take (third 2 slices_S3x2x16x4096x128_S1x2x16x4096x128_2_0_0_0_0 x w)))

/-- The result: the attention's rows through the output's linear layer. -/
def result (x : FVec Ideal S2x4096x2048 .f32) (w : FVec Ideal S6144x2048 .f32) (o : FVec Ideal S2048x2048 .f32) :
    FVec Ideal S2x4096x2048 .f32 :=
  Host.dotGeneral dot_S2x4096x2048_S2048x2048_S2x4096x2048_2_0_01_1_n_n none (attention x w)
    (transpose S2048x2048 [1, 0] o transposes_S2048x2048_S2048x2048_1_0)

/-- What the reference's run leaves in its result. -/
theorem res_eq (m : (ℓ : Loc nD τ sig) → Buf (Elt Ideal) ℓ) (c : Dev nD) :
    Value.res_main_v41 m c = result (m ((c.tc : Thread nD τ).loc main_arg0)) (m ((c.tc : Thread nD τ).loc main_arg1))
      (m ((c.tc : Thread nD τ).loc main_arg2)) := by
  rfl

/-- Reading the transposition that gathers queries, keys and values. -/
theorem transpose_apply (y : FVec Ideal S2x4096x3x16x128 .f32) (t : Fin 3) (b : Fin 2) (h : Fin 16) (n : Fin 4096) (d : Fin 128) :
    transpose S3x2x16x4096x128 [2, 0, 3, 1, 4] y transposes_S2x4096x3x16x128_S3x2x16x4096x128_2_0_3_1_4 (ix5 t b h n d)
      = y (ix5 b n t h d) := by
  pointwise []

/-- Reading the transposition that puts heads beside one another. -/
theorem transpose_back_apply (y : FVec Ideal S2x16x4096x128 .f32) (b : Fin 2) (n : Fin 4096) (h : Fin 16) (d : Fin 128) :
    transpose S2x4096x16x128 [0, 2, 1, 3] y transposes_S2x16x4096x128_S2x4096x16x128_0_2_1_3 (ix4 b n h d) = y (ix4 b h n d) := by
  pointwise []

/-- Reading one of the three. -/
theorem slice_apply (y : FVec Ideal S3x2x16x4096x128 .f32) (t : Fin 3) (hs : S3x2x16x4096x128.Slices ![t.val, 0, 0, 0, 0] S1x2x16x4096x128)
    (b : Fin 2) (h : Fin 16) (n : Fin 4096) (d : Fin 128) :
    extractStridedSlice S1x2x16x4096x128 ![t.val, 0, 0, 0, 0] y hs (ix5 0 b h n d) = y (ix5 t b h n d) := by
  pointwise []

/-- An element of the three linear layers together. -/
theorem product_apply (x : FVec Ideal S2x4096x2048 .f32) (w : FVec Ideal S6144x2048 .f32) (b : Fin 2) (n : Fin 4096) (r : Fin 6144) :
    Host.dotGeneral dot_S2x4096x2048_S2048x6144_S2x4096x6144_2_0_01_1_n_n none x
        (transpose S2048x6144 [1, 0] w transposes_S6144x2048_S2048x6144_1_0) (ix3 b n r)
      = ∑ c, x (ix3 b n c) * w (ix2 r c) := by
  pointwise []

/-- The row of the weights that makes column `d` of head `h` of part `t`. -/
def row (t : Fin 3) (h : Fin 16) (d : Fin 128) : Fin 6144 := ⟨2048 * t.val + (128 * h.val + d.val), by omega⟩

/-- An element of the three linear layers. -/
theorem qkv_apply (x : FVec Ideal S2x4096x2048 .f32) (w : FVec Ideal S6144x2048 .f32) (t : Fin 3) (b : Fin 2) (h : Fin 16)
    (n : Fin 4096) (d : Fin 128) :
    qkv x w (ix5 t b h n d) = ∑ c, x (ix3 b n c) * w (ix2 (row t h d) c) := by
  have hr : Shape.reshapeEquiv shapeCasts_S2x4096x6144_S2x4096x3x16x128 (ix5 b n t h d)
      = (ix3 b n (row t h d) : S2x4096x6144.Idx) :=
    Shape.reshapeEquiv_eq_of_vals _ _ _ _ _ (rowMajor_val3 _ 25165824 6144 rfl rfl)
      (rowMajor_val5 _ 25165824 6144 2048 128 rfl rfl rfl rfl) (by
        simp only [ix3_0, ix3_1, ix3_2, ix5_0, ix5_1, ix5_2, ix5_3, ix5_4, row]; omega)
  rw [qkv, transpose_apply, Pointwise.shapeCast_apply, hr, product_apply]

/-- An element of one of the three. -/
theorem third_apply (t : Fin 3) (hs : S3x2x16x4096x128.Slices ![t.val, 0, 0, 0, 0] S1x2x16x4096x128)
    (x : FVec Ideal S2x4096x2048 .f32) (w : FVec Ideal S6144x2048 .f32) (b : Fin 2) (h : Fin 16) (n : Fin 4096) (d : Fin 128) :
    third t.val hs x w (ix4 b h n d) = ∑ c, x (ix3 b n c) * w (ix2 (row t h d) c) := by
  have hr : Shape.reshapeEquiv shapeCasts_S1x2x16x4096x128_S2x16x4096x128 (ix4 b h n d)
      = (ix5 0 b h n d : S1x2x16x4096x128.Idx) :=
    Shape.reshapeEquiv_eq_of_vals _ _ _ _ _ (rowMajor_val5 _ 16777216 8388608 524288 128 rfl rfl rfl rfl)
      (rowMajor_val4 _ 8388608 524288 128 rfl rfl rfl) (by
        simp only [ix4_0, ix4_1, ix4_2, ix4_3, ix5_0, ix5_1, ix5_2, ix5_3, ix5_4, Fin.val_zero]; omega)
  rw [third, Pointwise.shapeCast_apply, hr, slice_apply, qkv_apply]

/-- Position `a` of segment `s`. -/
def place (s : Fin 32) (a : Fin 128) : Fin 4096 := ⟨128 * s.val + a.val, by omega⟩

/-- An element of a segment. -/
theorem segments_apply (y : FVec Ideal S2x16x4096x128 .f32) (b : Fin 2) (h : Fin 16) (s : Fin 32) (a d : Fin 128) :
    segments y (ix5 b h s a d) = y (ix4 b h (place s a) d) := by
  have hr : Shape.reshapeEquiv shapeCasts_S2x16x4096x128_S2x16x32x128x128 (ix5 b h s a d)
      = (ix4 b h (place s a) d : S2x16x4096x128.Idx) :=
    Shape.reshapeEquiv_eq_of_vals _ _ _ _ _ (rowMajor_val4 _ 8388608 524288 128 rfl rfl rfl)
      (rowMajor_val5 _ 8388608 524288 16384 128 rfl rfl rfl rfl) (by
        simp only [ix4_0, ix4_1, ix4_2, ix4_3, ix5_0, ix5_1, ix5_2, ix5_3, ix5_4, place]; omega)
  rw [segments, Pointwise.shapeCast_apply, hr]

/-- An element of the scaled queries. -/
theorem scaled_apply (y : FVec Ideal S2x16x4096x128 .f32) (b : Fin 2) (h : Fin 16) (n : Fin 4096) (d : Fin 128) :
    scaled y (ix4 b h n d) = y (ix4 b h (source n) d) * scale := by
  have hm : scaled y (ix4 b h n d) = take y (ix4 b h n d) * scale := by
    unfold scaled
    pointwise []
    rfl
  rw [hm, take_apply]

/-- A score: none is masked. -/
theorem scores_apply (q k : FVec Ideal S2x16x32x128x128 .f32) (b : Fin 2) (h : Fin 16) (s : Fin 32) (a e : Fin 128) :
    scores q k (ix5 b h s a e) = ∑ d, q (ix5 b h s a d) * k (ix5 b h s e d) := by
  unfold scores
  pointwise []
  rw [kept_apply]
  rfl

/-- A repeated value. -/
theorem along_apply (y : FVec Ideal S2x16x32x128 .f32) (b : Fin 2) (h : Fin 16) (s : Fin 32) (a e : Fin 128) :
    along y (ix5 b h s a e) = y (ix4 b h s a) := by
  pointwise [along]

/-- The scores' least value. -/
theorem bottom : Ideal.ofBits .f32 0xFF800000#32 = ⊥ := by simp [Ideal.ofBits, Ideal.ieee]

/-- A reduction along a row by the greater of two, as a fold over the row. -/
theorem fold_apply (y : FVec Ideal S2x16x32x128x128 .f32) (u : EReal) (b : Fin 2) (h : Fin 16) (s : Fin 32) (a : Fin 128) :
    Host.reduce FloatOps.maximumf y (fun _ => u) reducesTo_S2x16x32x128x128_S2x16x32x128_d4 h_S_ (ix4 b h s a)
      = Finset.univ.fold max u fun e => y (ix5 b h s a e) := by
  rw [Host.reduce_eq_fold_single FloatOps.maximumf _ _ _ (by decide : S2x16x32x128x128.Reduces [4] S2x16x32x128)]
  refine congrArg (fun f => Finset.fold max u f Finset.univ) (funext fun e => congrArg y (funext fun q => ?_))
  match q with
  | 0 => rfl
  | 1 => rfl
  | 2 => rfl
  | 3 => rfl
  | 4 => rfl

/-- A row's greatest element. -/
theorem rowMax_apply (y : FVec Ideal S2x16x32x128x128 .f32) (b : Fin 2) (h : Fin 16) (s : Fin 32) (a : Fin 128) :
    rowMax y (ix4 b h s a) = Finset.univ.sup fun e => y (ix5 b h s a e) := by
  have hc : constant (F := Ideal) S_ .f32 0xFF800000#32 = fun _ => (⊥ : EReal) := funext fun _ => bottom
  have hb : broadcastInDim S2x16x32x128 ![] bcast_S_S2x16x32x128 (fun _ : S_.Idx => (⊥ : EReal)) (ix4 b h s a) = ⊥ := rfl
  rw [rowMax, hc, maximumf_apply, fold_apply, hb]
  exact max_eq_right bot_le

/-- An exponential. -/
theorem exps_apply (y : FVec Ideal S2x16x32x128x128 .f32) (b : Fin 2) (h : Fin 16) (s : Fin 32) (a e : Fin 128) :
    exps y (ix5 b h s a e) = Ideal.exp (y (ix5 b h s a e) - Finset.univ.sup fun e => y (ix5 b h s a e)) := by
  have hm : exps y (ix5 b h s a e) = Ideal.exp (y (ix5 b h s a e) - along (rowMax y) (ix5 b h s a e)) := rfl
  rw [hm, along_apply, rowMax_apply]

/-- A weight. -/
theorem weights_apply (y : FVec Ideal S2x16x32x128x128 .f32) (b : Fin 2) (h : Fin 16) (s : Fin 32) (a e : Fin 128) :
    weights y (ix5 b h s a e) = Ideal.div (y (ix5 b h s a e)) (∑ e, y (ix5 b h s a e)) := by
  pointwise [weights, along]

/-- A weighted value in its column. -/
theorem columns_apply (y v : FVec Ideal S2x16x32x128x128 .f32) (b : Fin 2) (h : Fin 16) (s : Fin 32) (a d : Fin 128) :
    columns y v (ix3 b (place s a) (⟨128 * h.val + d.val, by omega⟩ : Fin 2048))
      = ∑ e, y (ix5 b h s a e) * v (ix5 b h s e d) := by
  have hr : Shape.reshapeEquiv shapeCasts_S2x4096x16x128_S2x4096x2048
      (ix3 b (place s a) (⟨128 * h.val + d.val, by omega⟩ : Fin 2048)) = (ix4 b (place s a) h d : S2x4096x16x128.Idx) :=
    Shape.reshapeEquiv_eq_of_vals _ _ _ _ _ (rowMajor_val4 _ 8388608 2048 128 rfl rfl rfl)
      (rowMajor_val3 _ 8388608 2048 rfl rfl) (by
        simp only [ix4_0, ix4_1, ix4_2, ix4_3, ix3_0, ix3_1, ix3_2]; omega)
  have hs : Shape.reshapeEquiv shapeCasts_S2x16x32x128x128_S2x16x4096x128 (ix4 b h (place s a) d)
      = (ix5 b h s a d : S2x16x32x128x128.Idx) :=
    Shape.reshapeEquiv_eq_of_vals _ _ _ _ _ (rowMajor_val5 _ 8388608 524288 16384 128 rfl rfl rfl rfl)
      (rowMajor_val4 _ 8388608 524288 128 rfl rfl rfl) (by
        simp only [ix4_0, ix4_1, ix4_2, ix4_3, ix5_0, ix5_1, ix5_2, ix5_3, ix5_4, place]; omega)
  rw [columns, Pointwise.shapeCast_apply, hr, transpose_back_apply, Pointwise.shapeCast_apply, hs]
  pointwise []

/-- The result's element. -/
theorem result_apply (x : FVec Ideal S2x4096x2048 .f32) (w : FVec Ideal S6144x2048 .f32) (o : FVec Ideal S2048x2048 .f32)
    (b : Fin 2) (n : Fin 4096) (j : Fin 2048) :
    result x w o (ix3 b n j) = ∑ c, attention x w (ix3 b n c) * o (ix2 j c) := by
  pointwise [result]

/-- Where a reordered position comes from: the place in the same segment that the reordering names. -/
theorem source_place (n : Fin 4096) (a : Fin 128) : source (near n a) = near n (turn a) := by
  have hn := n.isLt
  have ha := a.isLt
  refine Fin.ext ?_
  show (if (128 * (n.val / 128) + a.val) / 64 % 2 = 0 then 128 * (n.val / 128) + a.val
    else 64 * ((128 * (n.val / 128) + a.val) / 64) + 63 - (128 * (n.val / 128) + a.val) % 64)
      = 128 * (n.val / 128) + (if a.val < 64 then a.val else 191 - a.val)
  by_cases h : a.val < 64
  · rw [if_pos h, if_pos (by omega)]
  · rw [if_neg h, if_neg (by omega)]
    omega

/-- An element of one of the three at a reordered position, as a row of its linear layer. -/
theorem third_place (t : Fin 3) (hs : S3x2x16x4096x128.Slices ![t.val, 0, 0, 0, 0] S1x2x16x4096x128)
    (ht : 2048 * t.val + 2048 ≤ 6144) (x : FVec Ideal S2x4096x2048 .f32) (w : FVec Ideal S6144x2048 .f32) (b : Fin 2)
    (n : Fin 4096) (j : Fin 2048) (a d : Fin 128) :
    third t.val hs x w (ix4 b (⟨j.val / 128, by omega⟩ : Fin 16) (source (place (⟨n.val / 128, by omega⟩ : Fin 32) a)) d)
      = proj (fun n c => x (ix3 b n c)) (fun j => part (2048 * t.val) (fun r c => w (ix2 r c)) j ht) (near n (turn a)) (near j d) := by
  have hn : place (⟨n.val / 128, by omega⟩ : Fin 32) a = near n a := rfl
  rw [third_apply, hn, source_place]
  rfl

/-- The attention's rows, from the rows of queries, keys and values. -/
theorem attention_apply (x : FVec Ideal S2x4096x2048 .f32) (w : FVec Ideal S6144x2048 .f32) (b : Fin 2) (n : Fin 4096) (j : Fin 2048) :
    attention x w (ix3 b n j)
      = turned (proj (fun n c => x (ix3 b n c)) fun j => part 0 (fun r c => w (ix2 r c)) j)
          (proj (fun n c => x (ix3 b n c)) fun j => part 2048 (fun r c => w (ix2 r c)) j)
          (proj (fun n c => x (ix3 b n c)) fun j => part 4096 (fun r c => w (ix2 r c)) j) n j := by
  have hn : ∀ a, place (⟨n.val / 128, by omega⟩ : Fin 32) a = near n a := fun _ => rfl
  have h0 : near n (within n) = n := Fin.ext (by simp only [near, within]; omega)
  have h1 : near j (within j) = j := Fin.ext (by simp only [near, within]; omega)
  have hc : attention x w (ix3 b n j) = attention x w (ix3 b (place (⟨n.val / 128, by omega⟩ : Fin 32) (within n))
      (⟨128 * (j.val / 128) + (within j).val, by have := (within j).isLt; omega⟩ : Fin 2048)) := by
    rw [hn, h0]
    exact congrArg (fun j => attention x w (ix3 b n j)) h1.symm
  rw [hc]
  unfold attention
  rw [columns_apply _ _ b (⟨j.val / 128, by omega⟩ : Fin 16) (⟨n.val / 128, by omega⟩ : Fin 32) (within n) (within j)]
  simp only [weights_apply, exps_apply, scores_apply, segments_apply, scaled_apply, take_apply]
  have hq := third_place 0 slices_S3x2x16x4096x128_S1x2x16x4096x128_0_0_0_0_0 (by decide) x w b n j
  have hk := third_place 1 slices_S3x2x16x4096x128_S1x2x16x4096x128_1_0_0_0_0 (by decide) x w b n j
  have hv := third_place 2 slices_S3x2x16x4096x128_S1x2x16x4096x128_2_0_0_0_0 (by decide) x w b n j
  simp only [Fin.val_zero, Fin.val_one, Fin.val_two] at hq hk hv
  simp only [hq, hk, hv, h1]
  rfl

/-- The result's element, from the argument arrays. -/
theorem result_rows (x : FVec Ideal S2x4096x2048 .f32) (w : FVec Ideal S6144x2048 .f32) (o : FVec Ideal S2048x2048 .f32)
    (b : Fin 2) (n : Fin 4096) (j : Fin 2048) :
    result x w o (ix3 b n j)
      = layer (fun n c => x (ix3 b n c)) (fun r c => w (ix2 r c)) (fun r c => o (ix2 r c)) n j := by
  simp only [result_apply, attention_apply]
  rfl

end Cert.ReferenceIdeal.Snake

end
-- ==== Proof.Equation.lean ====
/- The fused layer is the layer as it is stated, where the input and the weights of queries and keys are real. -/
module

public import proofs.«01_k».proof.Proof.Attend

@[expose] public section

noncomputable section

namespace Cert.Attend

open Idealize.ShloMosaic

/-- The reordering undoes itself. -/
theorem turn_turn (a : Fin 128) : turn (turn a) = a := by
  revert a
  decide

/-- A sum over 128 positions may be taken in the reordered order. -/
theorem sum_turn (f : Fin 128 → EReal) : ∑ e, f (turn e) = ∑ e, f e :=
  Equiv.sum_comp (Function.Involutive.toPerm turn turn_turn) f

/-- A row of the table picks out one element, scaled. -/
theorem sum_table (a : Fin 128) (f : Fin 128 → EReal) : ∑ b, table a b * f b = f (turn a) * scale := by
  simp only [table, ite_mul, zero_mul, Finset.sum_ite_eq', Finset.mem_univ, if_true]
  exact mul_comm _ _

/-- The scale is a real number. -/
theorem scale_real : ∃ r : ℝ, scale = r := by
  simp [scale, Ideal.ofBits, Ideal.ieee, -EReal.coe_mul]

/-- A sum of reals is real. -/
theorem sum_coe {n : ℕ} (f : Fin n → ℝ) : ∑ c, (f c : EReal) = ((∑ c, f c : ℝ) : EReal) :=
  (map_sum (⟨⟨Real.toEReal, EReal.coe_zero⟩, EReal.coe_add⟩ : ℝ →+ EReal) f Finset.univ).symm

/-- A sum of products of reals is real. -/
theorem sum_mul_real {n : ℕ} {f g : Fin n → EReal} (hf : ∀ c, ∃ r : ℝ, f c = r) (hg : ∀ c, ∃ r : ℝ, g c = r) :
    ∃ r : ℝ, ∑ c, f c * g c = r := by
  choose f' hf using hf
  choose g' hg using hg
  exact ⟨∑ c, f' c * g' c, by simp only [hf, hg, ← EReal.coe_mul, sum_coe]⟩

/-- A real factor that is not negative comes out of a sum of extended reals. -/
theorem sum_mul_pos {n : ℕ} (f : Fin n → EReal) {r : ℝ} (hr : 0 ≤ r) : ∑ c, f c * (r : EReal) = (∑ c, f c) * (r : EReal) := by
  let g : EReal →+ EReal := ⟨⟨fun x => x * (r : EReal), zero_mul _⟩,
    fun x y => EReal.right_distrib_of_nonneg_of_ne_top (EReal.coe_nonneg.2 hr) (EReal.coe_ne_top r) x y⟩
  exact (map_sum g f Finset.univ).symm

/-- Where the scores are real, taking the greatest score away first and dividing each exponential changes nothing. -/
theorem softLessMax_eq (s : Fin 128 → ℝ) (v : Fin 128 → EReal) :
    softLessMax (fun e => (s e : EReal)) v = soft (fun e => (s e : EReal)) v := by
  obtain ⟨e₀, -, hm⟩ := Finset.exists_mem_eq_sup Finset.univ Finset.univ_nonempty fun e => (s e : EReal)
  have hz : (0 : ℝ) < ∑ e, Real.exp (s e) := Finset.sum_pos (fun e _ => Real.exp_pos _) Finset.univ_nonempty
  have hz' : (0 : ℝ) < ∑ e, Real.exp (s e - s e₀) := Finset.sum_pos (fun e _ => Real.exp_pos _) Finset.univ_nonempty
  have hw : ∀ e, Real.exp (s e - s e₀) * (1 / ∑ e, Real.exp (s e - s e₀)) = Real.exp (s e) * (1 / ∑ e, Real.exp (s e)) := by
    intro e
    have h0 := (Real.exp_pos (s e₀)).ne'
    simp only [Real.exp_sub, ← Finset.sum_div]
    field_simp
  unfold softLessMax soft
  simp only [hm, ← EReal.coe_sub, Ideal.exp_coe, sum_coe]
  rw [Ideal.div_coe hz.ne', one_mul, ← sum_mul_pos _ (one_div_pos.2 hz).le]
  refine Finset.sum_congr rfl fun e _ => ?_
  rw [Ideal.div_coe hz'.ne', ← EReal.coe_mul, hw, EReal.coe_mul, mul_right_comm]

/-- Where queries and keys are real, attention on reordered rows is attention that mixes the query rows by the table. -/
theorem turned_eq {n : ℕ} (q k v : Fin n → Fin 2048 → EReal) (hq : ∀ i j, ∃ r : ℝ, q i j = r) (hk : ∀ i j, ∃ r : ℝ, k i j = r)
    (i : Fin n) (j : Fin 2048) (h : 128 ∣ n) : turned q k v i j h = mixedAttend table q k v i j h := by
  have hs : ∀ e, ∃ r : ℝ, ∑ d, (q (near i (turn (within i)) h) (near j d) * scale) * k (near i e h) (near j d) = r := fun e =>
    sum_mul_real (fun d => by
      obtain ⟨a, ha⟩ := hq (near i (turn (within i)) h) (near j d)
      obtain ⟨b, hb⟩ := scale_real
      exact ⟨a * b, by rw [ha, hb, EReal.coe_mul]⟩) fun d => hk _ _
  choose s hs using hs
  have ht : turned q k v i j h = softLessMax (fun e => (s (turn e) : EReal)) fun e => v (near i (turn e) h) j := by
    simp only [turned, hs]
  have hm : mixedAttend table q k v i j h = soft (fun e => (s e : EReal)) fun e => v (near i e h) j := by
    simp only [mixedAttend, sum_table, hs]
  rw [ht, hm, softLessMax_eq fun e => s (turn e)]
  unfold soft
  rw [sum_turn fun e => Ideal.exp (s e : EReal) * v (near i e h) j, sum_turn fun e => Ideal.exp (s e : EReal)]

/-- The layer as it is stated is the fused one, where the input and the weights of queries and keys are real. -/
theorem layer_eq {n : ℕ} (x : Fin n → Fin 2048 → EReal) (w : Fin 6144 → Fin 2048 → EReal) (o : Fin 2048 → Fin 2048 → EReal)
    (hx : ∀ i c, ∃ r : ℝ, x i c = r) (hw : ∀ (j : Fin 6144) c, j.val < 4096 → ∃ r : ℝ, w j c = r)
    (i : Fin n) (j : Fin 2048) (h : 128 ∣ n) : layer x w o i j h = fused table x w o i j h := by
  have hq : ∀ i j, ∃ r : ℝ, proj x (fun j => part 0 w j) i j = r := fun i j =>
    sum_mul_real (hx i) fun c => hw _ c (by have := j.isLt; simp only; omega)
  have hk : ∀ i j, ∃ r : ℝ, proj x (fun j => part 2048 w j) i j = r := fun i j =>
    sum_mul_real (hx i) fun c => hw _ c (by have := j.isLt; simp only; omega)
  unfold layer fused
  exact congrArg (fun y => proj y o i j) (funext fun i => funext fun c => turned_eq _ _ _ hq hk i c h)

end Cert.Attend

end
-- ==== Proof.Finite.lean ====
/- What the precondition says: the input and the weights of queries and keys are real numbers. -/
module

public import proofs.«01_k».proof.Pre_finite
public import Idealize.ShloMosaic.Lib.Pointwise

@[expose] public section

noncomputable section

namespace Cert.Pre_finite

open Cert.Pre_finite Idealize.ShloMosaic

/-- The side conditions of the precondition's operations. -/
theorem witness : Cert.Pre_finite.Facts where
  bcast_S_S2x4096x2048 := by decide
  slices_S6144x2048_S4096x2048_0_0 := by decide
  bcast_S_S4096x2048 := by decide

/-- The bound's pattern is infinity. -/
theorem bound : Ideal.ofBits .f32 0x7F800000#32 = ⊤ := by simp [Ideal.ofBits, Ideal.ieee]

/-- A number whose magnitude is below infinity is real. -/
theorem real_of_abs_lt {y : EReal} (h : BitVec.ofBool (decide (max y (-y) < Ideal.ofBits .f32 0x7F800000#32)) = 1#1) :
    ∃ r : ℝ, y = r := by
  have hlt : max y (-y) < ⊤ := by
    rw [bound] at h
    by_contra hn
    rw [decide_eq_false hn] at h
    exact absurd h (by decide)
  induction y using EReal.rec with
  | bot => exact absurd hlt (by simp)
  | top => exact absurd hlt (by simp)
  | coe r => exact ⟨r, rfl⟩

variable [Cert.Pre_finite.Facts] {x : FVec Ideal S2x4096x2048 .f32} {w : FVec Ideal S6144x2048 .f32} {o : FVec Ideal S2048x2048 .f32}

/-- The input is real. -/
theorem input_real (h : (fn x w o).1 = fun _ => 1#1) (b : Fin 2) (n : Fin 4096) (d : Fin 2048) : ∃ r : ℝ, x (ix3 b n d) = r := by
  have h' := congrFun h (ix3 b n d)
  unfold fn at h'
  dsimp only at h'
  pointwise [] at h'
  exact real_of_abs_lt h'

/-- The weights of queries and keys are real. -/
theorem weights_real (h : (fn x w o).2 = fun _ => 1#1) (j : Fin 6144) (d : Fin 2048) (hj : j.val < 4096) :
    ∃ r : ℝ, w (ix2 j d) = r := by
  have h' := congrFun h (ix2 (⟨j.val, hj⟩ : Fin 4096) d)
  unfold fn at h'
  dsimp only at h'
  pointwise [] at h'
  exact real_of_abs_lt h'

end Cert.Pre_finite

end
-- ==== Proof.lean ====
/- The certificate's claim: the two runs' results are the same array, element by element. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Reference
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.SL.Sem Idealize.ShloMosaic.TcCoe

/-- The reference runs, changes no argument and ends with every counter at zero: it declares none. -/
theorem frame_reference : Cert.quiescent_ReferenceIdeal (hReferenceIdeal := Cert.ReferenceIdeal.Gen.facts) := fun m ρ _ =>
  letI := Cert.ReferenceIdeal.Gen.facts
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, and where the precondition holds, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_finite (hPre_finite := Cert.Pre_finite.witness) m)
    (h0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2)) :
    Cert.ReferenceIdeal.Value.res_main_v41 m' c
      = shapeCast Cert.KernelIdeal.S2x4096x2048 ((Cert.KernelIdeal.Gen.dats m 0 c).arrAt 4 Cert.KernelIdeal.cfg0.N)
          Cert.KernelIdeal.Gen.shapeCasts_S16x512x2048_S2x4096x2048 := by
  letI := Cert.Pre_finite.witness
  refine funext fun i => ?_
  obtain ⟨b, n, j, rfl⟩ : ∃ (b : Fin 2) (n : Fin 4096) (j : Fin 2048), i = ix3 b n j := ⟨i 0, i 1, i 2, eq_ix3 _⟩
  rw [Cert.ReferenceIdeal.Snake.res_eq, h0, h1, h2]
  refine (Cert.ReferenceIdeal.Snake.result_rows _ _ _ b n j).trans ?_
  refine (Cert.Attend.layer_eq _ _ _ (fun n d => Cert.Pre_finite.input_real (hp c).1 b n d)
    (fun r d hr => Cert.Pre_finite.weights_real (hp c).2 r d hr) n j _).trans ?_
  exact (Cert.KernelIdeal.Array.result_apply m c b n j).symm

/-- Both forms of the kernel and the reference run to the end, change no argument and leave every counter at zero; the
    idealized kernel is the printed one read over the extended reals; and its result is the reference's. -/
theorem claim : Cert.Claim := ⟨Cert.Kernel.Gen.facts, Cert.KernelIdeal.Gen.facts, Cert.ReferenceIdeal.Gen.facts,
  Cert.Pre_finite.witness, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  fun m ρ m' ρ' hp ha => ⟨_, Cert.KernelIdeal.Array.run m ρ,
    (θ_run Cert.ReferenceIdeal.defs _ _).mono
      (fun _ h c => ⟨(h c).1.trans (results_eq m m' c hp (ha c).1 (ha c).2.1 (ha c).2.2), (h c).2⟩)
      (Cert.ReferenceIdeal.Value.run (F := Ideal) m' ρ')⟩⟩

end Cert.Proof

end
